-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_contrast_and_ramp [hPre_contrast_and_ramp : Cert.Pre_contrast_and_ramp.Facts] (m : (ℓ : Loc Cert.KernelIdeal.nD Cert.KernelIdeal.τ Cert.KernelIdeal.sig) → Buf (Elt Ideal) ℓ) : Prop :=
  ∀ c : Dev Cert.KernelIdeal.nD,
    (Cert.Pre_contrast_and_ramp.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_contrast_and_ramp [hPre_contrast_and_ramp : Cert.Pre_contrast_and_ramp.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_contrast_and_ramp.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_contrast_and_ramp [hKernelIdeal : Cert.KernelIdeal.Facts] [hPre_contrast_and_ramp : Cert.Pre_contrast_and_ramp.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_contrast_and_ramp m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_contrast_and_ramp [hReferenceIdeal : Cert.ReferenceIdeal.Facts] [hPre_contrast_and_ramp : Cert.Pre_contrast_and_ramp.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_contrast_and_ramp m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_n" .f32 0x3D888889#32 ((1 / 15 : ℝ) : EReal)

def algebraic_KernelIdeal_ReferenceIdeal_pre_contrast_and_ramp [hKernelIdeal : Cert.KernelIdeal.Facts] [hReferenceIdeal : Cert.ReferenceIdeal.Facts] [hPre_contrast_and_ramp : Cert.Pre_contrast_and_ramp.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_contrast_and_ramp m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_contrast_and_ramp : Cert.Pre_contrast_and_ramp.Facts),
    quiescent_Kernel (hKernel := hKernel)
    ∧ quiescent_KernelIdeal (hKernelIdeal := hKernelIdeal)
    ∧ quiescent_KernelIdeal_pre_contrast_and_ramp (hKernelIdeal := hKernelIdeal) (hPre_contrast_and_ramp := hPre_contrast_and_ramp)
    ∧ quiescent_ReferenceIdeal (hReferenceIdeal := hReferenceIdeal)
    ∧ quiescent_ReferenceIdeal_pre_contrast_and_ramp (hReferenceIdeal := hReferenceIdeal) (hPre_contrast_and_ramp := hPre_contrast_and_ramp)
    ∧ preserves_Kernel_KernelIdeal
    ∧ algebraic_KernelIdeal_ReferenceIdeal_pre_contrast_and_ramp (hKernelIdeal := hKernelIdeal) (hReferenceIdeal := hReferenceIdeal) (hPre_contrast_and_ramp := hPre_contrast_and_ramp)
-- ==== Pre_contrast_and_ramp.lean ====
abbrev S64x384x384 : Shape := ⟨3, ![64, 384, 384]⟩
abbrev S16x3 : Shape := ⟨2, ![16, 3]⟩
abbrev S_ : Shape := ⟨0, ![]⟩
abbrev S64 : Shape := ⟨1, ![64]⟩
abbrev S1x3 : Shape := ⟨2, ![1, 3]⟩

class Facts : Prop where
  reducesTo_S64x384x384_S64_d1_2 : S64x384x384.ReducesTo [1, 2] S64
  h_S_ : 0 < S_.numel
  slices_S16x3_S1x3_15_0 : S16x3.Slices ![15, 0] S1x3
  bcast_S_S1x3 : S_.BroadcastsInDim S1x3 (![] : Fin 0 → Fin S1x3.rank)
  bcast_S1x3_S16x3_0_1 : S1x3.BroadcastsInDim S16x3 (![0, 1] : Fin 2 → Fin S16x3.rank)
  reducesTo_S64_S_d0 : S64.ReducesTo [0] S_
  reducesTo_S16x3_S_d0_1 : S16x3.ReducesTo [0, 1] S_

variable [Facts]

def fn {F : FTy → Type} [FloatOps F] (main_arg0 : FVec F S64x384x384 .f32) (main_arg1 : FVec F S16x3 .f32) : IVec S_ 1 :=
  let main_cst : FVec F S_ .f32 := constant S_ .f32 0xFF800000#32
  let main_v0 : FVec F S64 .f32 := (fun x v => Host.reduce FloatOps.maximumf x v reducesTo_S64x384x384_S64_d1_2 h_S_) main_arg0 main_cst
  let main_cst_0 : FVec F S_ .f32 := constant S_ .f32 0x7F800000#32
  let main_v1 : FVec F S64 .f32 := (fun x v => Host.reduce FloatOps.minimumf x v reducesTo_S64x384x384_S64_d1_2 h_S_) main_arg0 main_cst_0
  let main_v2 : IVec S64 1 := cmpf .ogt main_v0 main_v1
  let main_v3 : FVec F S1x3 .f32 := (extractStridedSlice S1x3 ![15, 0] · slices_S16x3_S1x3_15_0) main_arg1
  let main_cst_1 : FVec F S_ .f32 := constant S_ .f32 0x41700000#32
  let main_v4 : FVec F S1x3 .f32 := broadcastInDim S1x3 ![] bcast_S_S1x3 main_cst_1
  let main_v5 : FVec F S1x3 .f32 := Host.divf main_v3 main_v4
  let main_v6 : IVec S16x3 32 := iotaInDim S16x3 32 0
  let main_v7 : FVec F S16x3 .f32 := sitofp .f32 main_v6
  let main_v8 : FVec F S16x3 .f32 := broadcastInDim S16x3 ![0, 1] bcast_S1x3_S16x3_0_1 main_v5
  let main_v9 : FVec F S16x3 .f32 := mulf main_v7 main_v8
  let main_v10 : IVec S16x3 1 := cmpf .oeq main_arg1 main_v9
  let main_c : IVec S_ 1 := constantI S_ 1 1#1
  let main_v11 : IVec S_ 1 := (fun x v => Host.reduce IntOp.andi x v reducesTo_S64_S_d0 h_S_) main_v2 main_c
  let main_c_2 : IVec S_ 1 := constantI S_ 1 1#1
  let main_v12 : IVec S_ 1 := (fun x v => Host.reduce IntOp.andi x v reducesTo_S16x3_S_d0_1 h_S_) main_v10 main_c_2
  let main_v13 : IVec S_ 1 := andi main_v11 main_v12
  main_v13
-- ==== Kernel.lean ====
abbrev S64x384x384 : Shape := ⟨3, ![64, 384, 384]⟩
abbrev S16x3 : Shape := ⟨2, ![16, 3]⟩
abbrev S224x384 : Shape := ⟨2, ![224, 384]⟩
abbrev S384x224 : Shape := ⟨2, ![384, 224]⟩
abbrev S64x3x224x224 : Shape := ⟨4, ![64, 3, 224, 224]⟩
abbrev S16x384x384 : Shape := ⟨3, ![16, 384, 384]⟩
abbrev S16x3x224x224 : Shape := ⟨4, ![16, 3, 224, 224]⟩
abbrev S1x1 : Shape := ⟨2, ![1, 1]⟩
abbrev S1x384x384 : Shape := ⟨3, ![1, 384, 384]⟩
abbrev S384x384 : Shape := ⟨2, ![384, 384]⟩
abbrev S1 : Shape := ⟨1, ![1]⟩
abbrev S1x1x1 : Shape := ⟨3, ![1, 1, 1]⟩
abbrev S224x224 : Shape := ⟨2, ![224, 224]⟩
abbrev S1x1x224x224 : Shape := ⟨4, ![1, 1, 224, 224]⟩
abbrev S64x224x224x3 : Shape := ⟨4, ![64, 224, 224, 3]⟩

abbrev nBuf : Space → Nat
  | .hbm => 6
  | .vmem => 7
  | .smem => 0
  | _ => 0

abbrev bufTy : (tb : Table) → Fin (tcTables nBuf tb) → BufTy
  | .hbm, ⟨0, _⟩ => ⟨S64x384x384, .f32⟩
  | .hbm, ⟨1, _⟩ => ⟨S16x3, .f32⟩
  | .hbm, ⟨2, _⟩ => ⟨S224x384, .f32⟩
  | .hbm, ⟨3, _⟩ => ⟨S384x224, .f32⟩
  | .hbm, ⟨4, _⟩ => ⟨S64x3x224x224, .f32⟩
  | .hbm, ⟨5, _⟩ => ⟨S64x224x224x3, .f32⟩
  | .local _ .vmem, ⟨0, _⟩ => ⟨S16x384x384, .f32⟩
  | .local _ .vmem, ⟨1, _⟩ => ⟨S16x384x384, .f32⟩
  | .local _ .vmem, ⟨2, _⟩ => ⟨S16x3, .f32⟩
  | .local _ .vmem, ⟨3, _⟩ => ⟨S224x384, .f32⟩
  | .local _ .vmem, ⟨4, _⟩ => ⟨S384x224, .f32⟩
  | .local _ .vmem, ⟨5, _⟩ => ⟨S16x3x224x224, .f32⟩
  | .local _ .vmem, ⟨6, _⟩ => ⟨S16x3x224x224, .f32⟩
  | _, _ => ⟨S64x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S224x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x224 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x3x224x224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "inv_n" => some ((1 / 15 : ℝ) : EReal)
  | _ => none
-- ==== ReferenceIdeal.lean ====
abbrev S64x384x384 : Shape := ⟨3, ![64, 384, 384]⟩
abbrev S16x3 : Shape := ⟨2, ![16, 3]⟩
abbrev S224x384 : Shape := ⟨2, ![224, 384]⟩
abbrev S_ : Shape := ⟨0, ![]⟩
abbrev S64 : Shape := ⟨1, ![64]⟩
abbrev S64x1x1 : Shape := ⟨3, ![64, 1, 1]⟩
abbrev S64x384x384x1 : Shape := ⟨4, ![64, 384, 384, 1]⟩
abbrev S1 : Shape := ⟨1, ![1]⟩
abbrev S1x1x1x1 : Shape := ⟨4, ![1, 1, 1, 1]⟩
abbrev S64x384x384x3 : Shape := ⟨4, ![64, 384, 384, 3]⟩
abbrev S64x384x3x224 : Shape := ⟨4, ![64, 384, 3, 224]⟩
abbrev S64x224x384x3 : Shape := ⟨4, ![64, 224, 384, 3]⟩
abbrev S64x224x3x224 : Shape := ⟨4, ![64, 224, 3, 224]⟩
abbrev S64x224x224x3 : Shape := ⟨4, ![64, 224, 224, 3]⟩

abbrev nBuf : Space → Nat
  | .hbm => 45
  | .vmem => 0
  | .smem => 0
  | _ => 0

abbrev bufTy : (tb : Table) → Fin (tcTables nBuf tb) → BufTy
  | .hbm, ⟨0, _⟩ => ⟨S64x384x384, .f32⟩
  | .hbm, ⟨1, _⟩ => ⟨S16x3, .f32⟩
  | .hbm, ⟨2, _⟩ => ⟨S224x384, .f32⟩
  | .hbm, ⟨3, _⟩ => ⟨S_, .f32⟩
  | .hbm, ⟨4, _⟩ => ⟨S64, .f32⟩
  | .hbm, ⟨5, _⟩ => ⟨S64x1x1, .f32⟩
  | .hbm, ⟨6, _⟩ => ⟨S64x384x384, .f32⟩
  | .hbm, ⟨7, _⟩ => ⟨S64x384x384, .f32⟩
  | .hbm, ⟨8, _⟩ => ⟨S_, .f32⟩
  | .hbm, ⟨9, _⟩ => ⟨S64, .f32⟩
  | .hbm, ⟨10, _⟩ => ⟨S64x1x1, .f32⟩
  | .hbm, ⟨11, _⟩ => ⟨S64x384x384, .f32⟩
  | .hbm, ⟨12, _⟩ => ⟨S64x384x384, .f32⟩
  | .hbm, ⟨13, _⟩ => ⟨S_, .f32⟩
  | .hbm, ⟨14, _⟩ => ⟨S64x384x384, .f32⟩
  | .hbm, ⟨15, _⟩ => ⟨S64x384x384, .f32⟩
  | .hbm, ⟨16, _⟩ => ⟨S64x384x384, .f32⟩
  | .hbm, ⟨17, _⟩ => ⟨S64x384x384, .i32⟩
  | .hbm, ⟨18, _⟩ => ⟨S_, .i32⟩
  | .hbm, ⟨19, _⟩ => ⟨S64x384x384, .i32⟩
  | .hbm, ⟨20, _⟩ => ⟨S64x384x384, .i1⟩
  | .hbm, ⟨21, _⟩ => ⟨S_, .i32⟩
  | .hbm, ⟨22, _⟩ => ⟨S64x384x384, .i32⟩
  | .hbm, ⟨23, _⟩ => ⟨S64x384x384, .i32⟩
  | .hbm, ⟨24, _⟩ => ⟨S64x384x384, .i32⟩
  | .hbm, ⟨25, _⟩ => ⟨S64x384x384x1, .i32⟩
  | .hbm, ⟨26, _⟩ => ⟨S1, .i32⟩
  | .hbm, ⟨27, _⟩ => ⟨S_, .i32⟩
  | .hbm, ⟨28, _⟩ => ⟨S64x384x384x1, .i32⟩
  | .hbm, ⟨29, _⟩ => ⟨S64x384x384x1, .i1⟩
  | .hbm, ⟨30, _⟩ => ⟨S1x1x1x1, .i32⟩
  | .hbm, ⟨31, _⟩ => ⟨S64x384x384x1, .i32⟩
  | .hbm, ⟨32, _⟩ => ⟨S64x384x384x1, .i1⟩
  | .hbm, ⟨33, _⟩ => ⟨S64x384x384x1, .i1⟩
  | .hbm, ⟨34, _⟩ => ⟨S_, .i1⟩
  | .hbm, ⟨35, _⟩ => ⟨S64x384x384, .i1⟩
  | .hbm, ⟨36, _⟩ => ⟨S64x384x384x3, .f32⟩
  | .hbm, ⟨37, _⟩ => ⟨S64x384x384x3, .i1⟩
  | .hbm, ⟨38, _⟩ => ⟨S_, .f32⟩
  | .hbm, ⟨39, _⟩ => ⟨S64x384x384x3, .f32⟩
  | .hbm, ⟨40, _⟩ => ⟨S64x384x384x3, .f32⟩
  | .hbm, ⟨41, _⟩ => ⟨S64x384x3x224, .f32⟩
  | .hbm, ⟨42, _⟩ => ⟨S64x224x384x3, .f32⟩
  | .hbm, ⟨43, _⟩ => ⟨S64x224x3x224, .f32⟩
  | .hbm, ⟨44, _⟩ => ⟨S64x224x224x3, .f32⟩
  | _, _ => ⟨S64x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_v14 : Ref sig .tc := ⟨.hbm, 37, rfl⟩
abbrev main_call1_cst : Ref sig .tc := ⟨.hbm, 38, rfl⟩
abbrev main_call1_v15 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩

abbrev nD : Nat := 1
abbrev τ : Topo := Topo.v7x

variable {F : FTy → Type} [FloatOps F]
-- ==== Proof.Ramp.Scalar.lean ====
module

public import Idealize.ShloMosaic.PureOps.Ideal

@[expose] public section

/-!
# The scalar mathematics of the claim

Everything here is about extended reals; no program is mentioned. An image is normalised as
`(x - lo) * (15 / hi)` by one program and as `((x - lo) / hi) * 15` by the other, where `lo` is the least entry
and `hi` the greatest entry of `x - lo`. The two agree and round to a whole number from 0 to 15 as soon as the
greatest entry of `x` exceeds the least one.
-/

namespace Cert.Ramp

open Idealize.ShloMosaic

/-- Fifteen as an extended real is the real number fifteen. -/
theorem fifteen : (15 : EReal) = ((15 : ℝ) : EReal) := rfl

/-- The quotient by a nonzero extended real is the product with its inverse. -/
theorem div_of_ne_zero (x : EReal) {y : EReal} (hy : y ≠ 0) : Ideal.div x y = x * y⁻¹ := if_neg hy

/-- Scaling by `15 / hi` and dividing by `hi` before multiplying by `15` are the same, for a nonzero `hi`. -/
theorem scale_eq (a k : EReal) {hi : EReal} (h : hi ≠ 0) : a * Ideal.div k hi = Ideal.div a hi * k := by
  rw [div_of_ne_zero _ h, div_of_ne_zero _ h, mul_comm k, mul_assoc]

/-- A larger extended real minus a smaller one is positive, infinities included. -/
theorem sub_pos_of_lt {a b : EReal} (h : b < a) : 0 < a - b := by
  induction a <;> induction b <;> simp_all [← EReal.coe_sub]

/-- The scaled entry lies between 0 and 15: `lo` is below every entry, `hi` above every difference, and some entry
    exceeds `lo`. -/
theorem scaled_mem {ι : Type} (x : ι → EReal) (lo hi : EReal) (hlo : ∀ i, lo ≤ x i) (hhi : ∀ i, x i - lo ≤ hi)
    (hc : ∃ i, lo < x i) (i : ι) :
    0 ≤ (x i - lo) * Ideal.div 15 hi ∧ (x i - lo) * Ideal.div 15 hi ≤ 15 := by
  obtain ⟨j, hj⟩ := hc
  have hpos : 0 < hi := (sub_pos_of_lt hj).trans_le (hhi j)
  rw [div_of_ne_zero _ hpos.ne']
  induction hi with
  | bot => simp at hpos
  | top => simp
  | coe r =>
    have hr : 0 < r := by exact_mod_cast hpos
    -- a finite `hi` forces `lo` to be finite and every entry too
    have h1 := hhi j
    have h2 := hhi i
    have h3 := hlo i
    induction lo with
    | top => simp at hj
    | bot =>
      exfalso
      induction h : x j <;> simp_all
    | coe l =>
      induction h : x i with
      | bot => rw [h] at h3; simp at h3
      | top => rw [h] at h2; simp at h2
      | coe a =>
        rw [h] at h2 h3
        have h4 : l ≤ a := by exact_mod_cast h3
        have h5 : a - l ≤ r := by exact_mod_cast h2
        have h6 : ((a : EReal) - l) * (15 * (r : EReal)⁻¹) = (((a - l) * (15 * r⁻¹) : ℝ) : EReal) := by
          push_cast; rfl
        rw [h6]
        have h7 : 0 ≤ (a - l) * (15 * r⁻¹) := by
          have := sub_nonneg.mpr h4; positivity
        have h8 : (a - l) * (15 * r⁻¹) ≤ 15 := by
          have : (a - l) * r⁻¹ ≤ 1 := by rw [← div_eq_mul_inv, div_le_one hr]; exact h5
          nlinarith
        exact ⟨by exact_mod_cast h7, by rw [fifteen]; exact EReal.coe_le_coe_iff.mpr h8⟩

/-- Rounding to the nearest whole number keeps a real between 0 and 15 there, and lands on a natural number. -/
theorem round_mem {y : EReal} (h0 : 0 ≤ y) (h1 : y ≤ 15) :
    ∃ n : ℕ, n ≤ 15 ∧ Ideal.liftRound Ideal.roundHalfEven y = ((n : ℝ) : EReal) := by
  induction y with
  | bot => simp at h0
  | top => exact absurd (top_le_iff.mp h1) (EReal.coe_ne_top 15)
  | coe r =>
    have h0 : 0 ≤ r := by exact_mod_cast h0
    have h1 : r ≤ 15 := by rw [fifteen] at h1; exact EReal.coe_le_coe_iff.mp h1
    have hf0 : 0 ≤ ⌊r⌋ := Int.floor_nonneg.mpr h0
    have hf1 : ⌊r⌋ ≤ 15 := by
      have : (⌊r⌋ : ℝ) ≤ 15 := (Int.floor_le r).trans h1
      exact_mod_cast this
    have hm : 0 ≤ Ideal.roundHalfEven r ∧ Ideal.roundHalfEven r ≤ 15 := by
      rcases hf1.lt_or_eq with hlt | heq
      · unfold Ideal.roundHalfEven; dsimp only; split_ifs <;> omega
      · have : r - (⌊r⌋ : ℝ) < 1 / 2 := by rw [heq]; push_cast; linarith
        unfold Ideal.roundHalfEven; dsimp only; rw [if_pos this]; omega
    refine ⟨(Ideal.roundHalfEven r).toNat, by omega, ?_⟩
    have : ((Ideal.roundHalfEven r).toNat : ℤ) = Ideal.roundHalfEven r := Int.toNat_of_nonneg hm.1
    show ((Ideal.roundHalfEven r : ℝ) : EReal) = _
    generalize Ideal.roundHalfEven r = z at this ⊢
    have h2 : (z : ℝ) = ((z.toNat : ℕ) : ℝ) := by exact_mod_cast this.symm
    rw [h2]

/-- The 32-bit word of a small natural number is what the float-to-integer conversion makes of it. -/
theorem fptosi_natCast {n : ℕ} (h : n ≤ 15) : Ideal.fptosi 32 ((n : ℝ) : EReal) = BitVec.ofNat 32 n := by
  have ht : Ideal.truncInt (n : ℝ) = (n : ℤ) := by
    unfold Ideal.truncInt; rw [if_pos (Nat.cast_nonneg n)]; exact Int.floor_natCast n
  show BitVec.ofInt 32 (max _ (min _ (Ideal.truncInt (n : ℝ)))) = _
  rw [ht]
  interval_cases n <;> decide

/-! ## Sums of nonnegative terms -/

/-- A sum of nonnegative extended reals times any factor, infinite or negative, is the sum of the products. -/
theorem sum_mul_of_nonneg {ι : Type} (s : Finset ι) (f : ι → EReal) (hf : ∀ i, 0 ≤ f i) (c : EReal) :
    (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a) (Finset.sum_nonneg fun i _ => hf i), ih]

/-- A common factor `s` of every pixel comes out of the two weighted sums of a separable resize, whatever `s` is,
    because pixels and weights are nonnegative. -/
theorem resize_scale {H W : Type} [Fintype H] [Fintype W] (u : H → EReal) (v : W → EReal) (q : H → W → EReal) (s : EReal)
    (hu : ∀ h, 0 ≤ u h) (hv : ∀ w, 0 ≤ v w) (hq : ∀ h w, 0 ≤ q h w) :
    ∑ w, (∑ h, (q h w * s) * u h) * v w = (∑ w, (∑ h, u h * q h w) * v w) * s := by
  rw [sum_mul_of_nonneg _ _ fun w => mul_nonneg (Finset.sum_nonneg fun h _ => mul_nonneg (hu h) (hq h w)) (hv w)]
  refine Finset.sum_congr rfl fun w _ => ?_
  rw [show (∑ h, u h * q h w) * v w * s = ((∑ h, u h * q h w) * s) * v w by rw [mul_right_comm],
    sum_mul_of_nonneg _ _ fun h => mul_nonneg (hu h) (hq h w)]
  refine congrArg (· * v w) (Finset.sum_congr rfl fun h _ => ?_)
  rw [mul_comm (u h), mul_right_comm]

end Cert.Ramp
-- ==== Proof.Ramp.Formula.lean ====
module

public import proofs.«01_k».proof.Proof.Ramp.Scalar

@[expose] public section

/-!
# The formula of one pixel of the picture

`shade` is what the kernel computes for one pixel of one colour channel; `Formula` is the vocabulary that the
kernel's, the reference's and the precondition's modules share.
-/

noncomputable section

namespace Cert.Ramp

open Idealize.ShloMosaic

/-- A spectrogram: 384 by 384 entries. -/
abbrev Spec := Fin 384 × Fin 384 → EReal

/-- The least entry. -/
def lo (x : Spec) : EReal := Finset.univ.fold min ⊤ x

/-- The greatest entry of `x - lo x`. -/
def hi (x : Spec) : EReal := Finset.univ.fold max ⊥ fun i => x i - lo x

/-- The greatest entry. -/
def top (x : Spec) : EReal := Finset.univ.fold max ⊥ x

/-- The palette index of an entry, as a rounded extended real. -/
def level (x : Spec) (i : Fin 384 × Fin 384) : EReal :=
  Ideal.liftRound Ideal.roundHalfEven ((x i - lo x) * Ideal.div 15 (hi x))

/-- The kernel's pixel `(a, b)`: the palette indices resized by the two weight tables, then stretched along the ramp
    from the palette's `first` entry to its `last` one. -/
def shade (x : Spec) (wh : Fin 224 → Fin 384 → EReal) (ww : Fin 384 → Fin 224 → EReal) (first last : EReal)
    (a b : Fin 224) : EReal :=
  first + (∑ w, (∑ h, wh a h * level x (h, w)) * ww w b) * ((last - first) * ((1 / 15 : ℝ) : EReal))

/-- The word of positive infinity. -/
theorem ofBits_inf : Ideal.ofBits .f32 0x7F800000#32 = ⊤ := by simp [Ideal.ofBits, Ideal.ieee]

/-- The word of negative infinity. -/
theorem ofBits_neg_inf : Ideal.ofBits .f32 0xFF800000#32 = ⊥ := by simp [Ideal.ofBits, Ideal.ieee]

/-- The word of fifteen. -/
theorem ofBits_fifteen : Ideal.ofBits .f32 0x41700000#32 = 15 := by
  rw [fifteen]; simp [Ideal.ofBits, Ideal.ieee, -EReal.coe_mul]; norm_num

/-- A word that is not above the word of infinity is that of a nonnegative float. -/
theorem ofBits_nonneg {b : BitVec 32} (h : b.toNat ≤ 0x7F800000) :
    0 ≤ Ideal.ofBits .f32 b := by
  have hs : (b.extractLsb' (8 + 23) 1 == 1#1) = false := by
    rw [beq_eq_false_iff_ne, ne_eq, ← BitVec.toNat_inj]
    simp only [BitVec.extractLsb'_toNat, Nat.shiftRight_eq_div_pow, BitVec.toNat_ofNat]
    omega
  have hf : (b.extractLsb' 23 8).toNat = 255 → (b.extractLsb' 0 23).toNat = 0 := by
    simp only [BitVec.extractLsb'_toNat, Nat.shiftRight_eq_div_pow]
    omega
  show 0 ≤ Ideal.ieee 8 23 b
  unfold Ideal.ieee
  simp only [hs, Bool.false_eq_true, if_false]
  by_cases h1 : (b.extractLsb' 23 8).toNat = 2 ^ 8 - 1
  · rw [if_pos h1, if_pos (hf h1)]; exact le_top
  · rw [if_neg h1]
    split_ifs
    all_goals
      refine EReal.coe_nonneg.mpr ?_
      positivity

/-- Contrast: the greatest entry of a spectrogram exceeds the least one. -/
def Contrast (x : Spec) : Prop := lo x < top x

/-- The least entry is below every entry. -/
theorem lo_le (x : Spec) (i : Fin 384 × Fin 384) : lo x ≤ x i :=
  (Finset.le_fold_min (lo x)).mp le_rfl |>.2 i (Finset.mem_univ i)

/-- The greatest difference is above every difference. -/
theorem le_hi (x : Spec) (i : Fin 384 × Fin 384) : x i - lo x ≤ hi x :=
  (Finset.fold_max_le (hi x)).mp le_rfl |>.2 i (Finset.mem_univ i)

/-- With contrast, some entry exceeds the least one. -/
theorem Contrast.exists_lt {x : Spec} (h : Contrast x) : ∃ i, lo x < x i := by
  have := (Finset.lt_fold_max (lo x)).mp h
  rcases this with h | ⟨i, _, h⟩
  · simp at h
  · exact ⟨i, h⟩

/-- With contrast, the greatest difference is not zero. -/
theorem Contrast.hi_ne {x : Spec} (h : Contrast x) : hi x ≠ 0 := by
  obtain ⟨i, hi⟩ := h.exists_lt
  exact ((sub_pos_of_lt hi).trans_le (le_hi x i)).ne'

/-- With contrast, every palette index is a natural number up to 15. -/
theorem Contrast.level_mem {x : Spec} (h : Contrast x) (i : Fin 384 × Fin 384) :
    ∃ n : ℕ, n ≤ 15 ∧ level x i = ((n : ℝ) : EReal) := by
  obtain ⟨h0, h1⟩ := scaled_mem x (lo x) (hi x) (lo_le x) (le_hi x) h.exists_lt i
  exact round_mem h0 h1

end Cert.Ramp
-- ==== Proof.Ramp.Reference.lean ====
module

public import proofs.«01_k».proof.Proof.Gen.ReferenceIdeal.Run
public import proofs.«01_k».proof.Proof.Ramp.Formula
public import Idealize.ShloMosaic.Lib.Pointwise
public import Idealize.ShloMosaic.Lib.ReduceAll
public import Idealize.ShloMosaic.Lib.Affine

@[expose] public section

/-!
# The reference's result, pixel by pixel

The reference looks up every entry's palette index and resizes the three channels.
-/

noncomputable section

namespace Cert.Ramp

open Idealize.ShloMosaic Idealize.ShloMosaic.TcCoe Cert.ReferenceIdeal Cert.ReferenceIdeal.Gen

/-- Every spectrogram's least entry. -/
def least (X : FVec Ideal S64x384x384 .f32) : FVec Ideal S64 .f32 :=
  Host.reduce FloatOps.minimumf X (constant S_ .f32 0x7F800000#32) reducesTo_S64x384x384_S64_d1_2 h_S_

/-- One number per spectrogram, spread over its entries. -/
def spread (v : FVec Ideal S64 .f32) : FVec Ideal S64x384x384 .f32 :=
  broadcastInDim S64x384x384 ![0, 1, 2] bcast_S64x1x1_S64x384x384_0_1_2 (broadcastInDim S64x1x1 ![0] bcast_S64_S64x1x1_0 v)

/-- Every entry less its spectrogram's least one. -/
def shifted (X : FVec Ideal S64x384x384 .f32) : FVec Ideal S64x384x384 .f32 := subf X (spread (least X))

/-- Every spectrogram's greatest shifted entry. -/
def greatest (X : FVec Ideal S64x384x384 .f32) : FVec Ideal S64 .f32 :=
  Host.reduce FloatOps.maximumf X (constant S_ .f32 0xFF800000#32) reducesTo_S64x384x384_S64_d1_2 h_S_

/-- The palette indices, as integers. -/
def indices (X : FVec Ideal S64x384x384 .f32) : IVec S64x384x384 32 :=
  fptosi 32 (Host.roundeven (mulf (Host.divf (shifted X) (spread (greatest (shifted X)))) (broadcastInDim S64x384x384 ![] bcast_S_S64x384x384 (constant S_ .f32 0x41700000#32))))

/-- The least entry, as the formula has it. -/
theorem least_apply (X : FVec Ideal S64x384x384 .f32) (s : Fin 64) : least X (ix1 s) = lo fun i => X (ix3 s i.1 i.2) := by
  unfold least lo
  rw [← ofBits_inf]
  pointwise

/-- A spread number at an entry. -/
theorem spread_apply (v : FVec Ideal S64 .f32) (s : Fin 64) (h w : Fin 384) : spread v (ix3 s h w) = v (ix1 s) := by
  unfold spread
  pointwise

/-- A shifted entry. -/
theorem shifted_apply (X : FVec Ideal S64x384x384 .f32) (s : Fin 64) (h w : Fin 384) :
    shifted X (ix3 s h w) = X (ix3 s h w) - lo fun i => X (ix3 s i.1 i.2) := by
  rw [← least_apply, ← spread_apply (least X) s h w]
  rfl

/-- A greatest entry. -/
theorem greatest_apply (X : FVec Ideal S64x384x384 .f32) (s : Fin 64) :
    greatest X (ix1 s) = Finset.univ.fold max ⊥ fun i : Fin 384 × Fin 384 => X (ix3 s i.1 i.2) := by
  unfold greatest
  rw [← ofBits_neg_inf]
  pointwise

/-- The greatest shifted entry, as the formula has it. -/
theorem greatest_shifted (X : FVec Ideal S64x384x384 .f32) (s : Fin 64) :
    greatest (shifted X) (ix1 s) = hi fun i => X (ix3 s i.1 i.2) := by
  rw [greatest_apply]
  unfold hi
  simp only [shifted_apply]

/-- Dividing, scaling by fifteen, rounding and converting, at an entry. -/
theorem quantised (A B : FVec Ideal S64x384x384 .f32) (i : S64x384x384.Idx) :
    fptosi 32 (Host.roundeven (mulf (Host.divf A B) (broadcastInDim S64x384x384 ![] bcast_S_S64x384x384 (constant S_ .f32 0x41700000#32)))) i
      = Ideal.fptosi 32 (Ideal.liftRound Ideal.roundHalfEven (Ideal.div (A i) (B i) * 15)) := by
  rw [← ofBits_fifteen]
  rfl

/-- An index of a spectrogram with contrast is the palette index of the entry. -/
theorem indices_apply (X : FVec Ideal S64x384x384 .f32) (s : Fin 64) (hX : Contrast fun i => X (ix3 s i.1 i.2)) (h w : Fin 384) :
    indices X (ix3 s h w) = Ideal.fptosi 32 (level (fun i => X (ix3 s i.1 i.2)) (h, w)) := by
  refine (quantised _ _ _).trans ?_
  rw [spread_apply, greatest_shifted, shifted_apply]
  unfold level
  rw [scale_eq _ _ hX.hi_ne]

/-- The indices as the look-up takes them: a negative one counted from the palette's end. -/
def wrapped (i : IVec S64x384x384 32) : IVec S64x384x384x1 32 :=
  broadcastInDim S64x384x384x1 ![0, 1, 2] bcast_S64x384x384_S64x384x384x1_0_1_2 (select (cmpi .slt i (broadcastInDim S64x384x384 ![] bcast_S_S64x384x384 (constantI S_ 32 0#32))) (addi i (broadcastInDim S64x384x384 ![] bcast_S_S64x384x384 (constantI S_ 32 16#32))) i)

/-- Where the look-up is inside the palette. -/
def inside (i : IVec S64x384x384x1 32) : IVec S64x384x384 1 :=
  Host.reduce IntOp.andi (andi (cmpi .sge i (broadcastInDim S64x384x384x1 ![] bcast_S_S64x384x384x1 (constantI S_ 32 0#32))) (cmpi .sle i (broadcastInDim S64x384x384x1 ![0, 1, 2, 3] bcast_S1x1x1x1_S64x384x384x1_0_1_2_3 (broadcastInDim S1x1x1x1 ![3] bcast_S1_S1x1x1x1_3 (constantI S1 32 15#32))))) (constantI S_ 1 1#1) reducesTo_S64x384x384x1_S64x384x384_d3 h_S_

/-- The colours looked up at the indices `i`. -/
def colours (P : FVec Ideal S16x3 .f32) (i : IVec S64x384x384x1 32) : FVec Ideal S64x384x384x3 .f32 :=
  select (broadcastInDim S64x384x384x3 ![0, 1, 2] bcast_S64x384x384_S64x384x384x3_0_1_2 (inside i)) (Host.gather gather_S16x3_S64x384x384x1_S64x384x384x3_3_0_n_n_0_3_13 P i) (broadcastInDim S64x384x384x3 ![] bcast_S_S64x384x384x3 (constant S_ .f32 0x7FC00000#32))

/-- The picture resized by the table `W` along both axes. -/
def resized (W : FVec Ideal S224x384 .f32) (C : FVec Ideal S64x384x384x3 .f32) : FVec Ideal S64x224x224x3 .f32 :=
  transpose S64x224x224x3 [0, 1, 3, 2] (Host.dotGeneral dot_S64x224x384x3_S224x384_S64x224x3x224_2_1_013_0_n_n none (transpose S64x224x384x3 [0, 3, 1, 2] (Host.dotGeneral dot_S64x384x384x3_S224x384_S64x384x3x224_1_1_023_0_n_n none C W) transposes_S64x384x3x224_S64x224x384x3_0_3_1_2) W) transposes_S64x224x3x224_S64x224x224x3_0_1_3_2

/-- The resized picture at a pixel: the weighted sum along the first axis, then along the second. -/
theorem resized_apply (W : FVec Ideal S224x384 .f32) (C : FVec Ideal S64x384x384x3 .f32) (y : S64x224x224x3.Idx) :
    resized W C y = ∑ w : Fin 384, (∑ h : Fin 384, C (ix4 (y 0) h w (y 3)) * W (ix2 (y 1) h)) * W (ix2 (y 2) w) := by
  idx_vars y
  unfold resized
  pointwise

/-- The reference's weight table. -/
abbrev weightsR : FVec Ideal S224x384 .f32 := fun i => FloatOps.ofBits (F := Ideal) .f32 (lit0 (S224x384.rowMajor i))

set_option maxRecDepth 100000 in
/-- The reference's result. -/
theorem reference_eq (m : (ℓ : Loc nD τ sig) → Buf (Elt Ideal) ℓ) (c : Dev nD) :
    Value.res_main_v16 m c = resized weightsR
      (colours (m ((c.tc : Thread nD τ).loc main_arg1)) (wrapped (indices (m ((c.tc : Thread nD τ).loc main_arg0))))) := rfl

/-- Wrapping keeps an index that is not negative. -/
theorem wrapped_apply (i : IVec S64x384x384 32) (s : Fin 64) (h w : Fin 384) (n : ℕ) (hn : n ≤ 15) (hi : i (ix3 s h w) = BitVec.ofNat 32 n) :
    wrapped i (ix4 s h w 0) = BitVec.ofNat 32 n := by
  unfold wrapped
  pointwise
  rw [hi]
  interval_cases n <;> rfl

/-- Clamping a palette number keeps it. -/
theorem clamp_word (n : Fin 16) : min (BitVec.ofNat 32 n.val).toInt.toNat 15 + 0 + 0 = n.val := by
  revert n; decide

/-- A palette number passes the test of the look-up. -/
theorem inside_word (n : Fin 16) :
    IntOp.andi (IntOp.andi (IntOp.cmpi CmpIPredicate.sge (BitVec.ofNat 32 n.val) 0#32)
      (IntOp.cmpi CmpIPredicate.sle (BitVec.ofNat 32 n.val) 15#32)) 1#1 = 1#1 := by
  revert n; decide

/-- The look-up's dimension numbers. -/
abbrev lookup := gather_S16x3_S64x384x384x1_S64x384x384x3_3_0_n_n_0_3_13

/-- The look-up reads, for an entry, the palette's row at the entry's index (clamped) and the channel's column. -/
theorem gather_apply (P : FVec Ideal S16x3 .f32) (i : IVec S64x384x384x1 32) (s : Fin 64) (h w : Fin 384) (c : Fin 3) (n : Fin 16)
    (hi : i (ix4 s h w 0) = BitVec.ofNat 32 n) : Host.gather lookup P i (ix4 s h w c) = P (ix2 n c) := by
  unfold Host.gather
  congr 1
  funext a
  apply Fin.ext
  show lookup.start (ix4 s h w c) i a + lookup.batchCoord (ix4 s h w c) a + lookup.offCoord (ix4 s h w c) a = _
  rw [GatherDims.batchCoord_eq_zero _ _ _ List.not_mem_nil]
  have two : a = (0 : Fin 2) ∨ a = (1 : Fin 2) := by
    rcases a with ⟨v, hv⟩
    have : v < 2 := hv
    interval_cases v <;> simp
  rcases two with rfl | rfl
  · rw [GatherDims.offCoord_eq_zero _ _ _ (fun h => ((GatherDims.mem_sKept _ _).mp h).1 (List.mem_singleton.mpr rfl))]
    unfold GatherDims.start
    rw [dif_pos (show (0 : Fin 2) ∈ lookup.startIndexMap from List.mem_singleton.mpr rfl)]
    have place : lookup.siIdx (ix4 s h w c) ⟨List.idxOf (0 : Fin 2) lookup.startIndexMap,
        List.idxOf_lt_length_iff.2 (List.mem_singleton.mpr rfl)⟩ = ix4 s h w 0 := by
      funext b; refine Fin.ext ?_
      match b with
      | ⟨0, _⟩ => rfl
      | ⟨1, _⟩ => rfl
      | ⟨2, _⟩ => rfl
      | ⟨3, _⟩ => rfl
    rw [place, hi]
    show min (BitVec.ofNat 32 n.val).toInt.toNat 15 + 0 + 0 = n.val
    exact clamp_word n
  · unfold GatherDims.start
    rw [dif_neg (show ¬(1 : Fin 2) ∈ lookup.startIndexMap from by decide)]
    show 0 + 0 + lookup.offCoord (ix4 s h w c) (1 : Fin 2) = c.val
    rw [Nat.zero_add]
    rfl

/-- Inside the palette, the test says so. -/
theorem inside_apply (i : IVec S64x384x384x1 32) (s : Fin 64) (h w : Fin 384) (n : Fin 16)
    (hi : i (ix4 s h w 0) = BitVec.ofNat 32 n) : inside i (ix3 s h w) = 1#1 := by
  unfold inside
  pointwise
  rw [show (Finset.univ : Finset (Fin 1)) = {0} from rfl, Finset.fold_singleton, hi]
  exact inside_word n

/-- The look-up at an index of the palette is that entry. -/
theorem colours_apply (P : FVec Ideal S16x3 .f32) (i : IVec S64x384x384x1 32) (s : Fin 64) (h w : Fin 384) (c : Fin 3) (n : Fin 16)
    (hi : i (ix4 s h w 0) = BitVec.ofNat 32 n) : colours P i (ix4 s h w c) = P (ix2 n c) := by
  unfold colours
  pointwise
  rw [inside_apply i s h w n hi, gather_apply P i s h w c n hi]
  rfl

end Cert.Ramp
-- ==== Proof.Ramp.Block.lean ====
module

public import proofs.«01_k».proof.Proof.Gen.KernelIdeal.Frame
public import proofs.«01_k».proof.Proof.Ramp.Formula
public import Idealize.ShloMosaic.Lib.Pointwise
public import Idealize.ShloMosaic.Lib.Pipeline.ValueKit

@[expose] public section

/-!
# One block of the kernel

One grid point writes 16 spectrograms times 3 channels, one 224 by 224 picture per store. Every store's value is the
same expression of what it loads; read at a pixel it is the formula `shade`.
-/

noncomputable section

namespace Cert.Ramp

open Idealize.ShloMosaic Idealize.SL.Sem Cert.KernelIdeal Cert.KernelIdeal.Gen

/-- What one store writes: the first store's expression, of the two palette entries, the spectrogram and the tables. -/
def picture (first last : Vec Ideal S1x1 .f32) (img : Vec Ideal S1x384x384 .f32) (wh : Vec Ideal S224x384 .f32)
    (ww : Vec Ideal S384x224 .f32) : FVec Ideal S1x1x224x224 .f32 :=
  k0_pay9 (k0_pay1 first) (k0_pay4 first last) (k0_pay7 img) wh (constant S224x384 .f32 0x00000000#32) ww

/-- The named constant is one fifteenth. -/
theorem inv_n_eq : (Named.named (F := Ideal) κ "inv_n" (φ := .f32) 0x3D888889#32 : EReal) = ((1 / 15 : ℝ) : EReal) := rfl

/-- A pixel of what one store writes is the formula. -/
theorem picture_apply (first last : Vec Ideal S1x1 .f32) (img : Vec Ideal S1x384x384 .f32) (wh : Vec Ideal S224x384 .f32)
    (ww : Vec Ideal S384x224 .f32) (x : S1x1x224x224.Idx) :
    picture first last img wh ww x
      = shade (fun i => img (ix3 0 i.1 i.2)) (fun a h => wh (ix2 a h)) (fun w b => ww (ix2 w b)) (first (ix2 0 0)) (last (ix2 0 0))
          (x 2) (x 3) := by
  pointwise [picture, k0_pay9, k0_pay8, k0_pay1, k0_pay4, k0_pay7]
  rw [ofBits_inf, ofBits_neg_inf, ofBits_fifteen]
  rfl

/-- The picture of spectrogram `s` of the block in channel `c`, at pixel `(a, b)`. -/
def blockShade (x0 : Vec Ideal S16x384x384 .f32) (x1 : Vec Ideal S16x3 .f32) (x2 : Vec Ideal S224x384 .f32)
    (x3 : Vec Ideal S384x224 .f32) (s : Fin 16) (c : Fin 3) (a b : Fin 224) : EReal :=
  shade (fun i => x0 (ix3 s i.1 i.2)) (fun a h => x2 (ix2 a h)) (fun w b => x3 (ix2 w b)) (x1 (ix2 0 c)) (x1 (ix2 15 c)) a b

/-- A store whose loads are spectrogram `s` and the palette's entries of channel `c` writes that picture. -/
theorem picture_of_loads (x0 : Vec Ideal S16x384x384 .f32) (x1 : Vec Ideal S16x3 .f32) (x2 : Vec Ideal S224x384 .f32)
    (x3 : Vec Ideal S384x224 .f32) (s c : ℕ)
    (inb0 : ∀ a, (![s, 0, 0] : Fin 3 → ℕ) a + S1x384x384.size a ≤ S16x384x384.size a)
    (inbF : ∀ a, (![0, c] : Fin 2 → ℕ) a + S1x1.size a ≤ S16x3.size a)
    (inbL : ∀ a, (![15, c] : Fin 2 → ℕ) a + S1x1.size a ≤ S16x3.size a)
    (y : S16x3x224x224.Idx) (x : S1x1x224x224.Idx) (h0 : (y 0).val = s) (h1 : (y 1).val = c)
    (h2 : (y 2).val = (x 2).val) (h3 : (y 3).val = (x 3).val) :
    picture (View.ld x1 (Rect.unit (s := S16x3) ![0, c] S1x1.size inbF))
        (View.ld x1 (Rect.unit (s := S16x3) ![15, c] S1x1.size inbL))
        (View.ld x0 (Rect.unit (s := S16x384x384) ![s, 0, 0] S1x384x384.size inb0))
        (View.ld x2 r0_7) (View.ld x3 r0_8) x
      = blockShade x0 x1 x2 x3 (y 0) (y 1) (y 2) (y 3) := by
  rw [picture_apply]
  subst h0 h1
  have e2 : x 2 = y 2 := Fin.ext h2.symm
  have e3 : x 3 = y 3 := Fin.ext h3.symm
  rw [e2, e3]
  unfold blockShade
  pointwise

/-- The block after the body: pixel `(a, b)` of picture `(s, c)`, whichever of the 48 stores wrote it. -/
theorem out_apply (x0 : Vec Ideal S16x384x384 .f32) (x1 : Vec Ideal S16x3 .f32) (x2 : Vec Ideal S224x384 .f32)
    (x3 : Vec Ideal S384x224 .f32) (y : S16x3x224x224.Idx) :
    out0_4 x0 x1 x2 x3 y = blockShade x0 x1 x2 x3 (y 0) (y 1) (y 2) (y 3) := by
  unfold out0_4
  canon_tiles x h
  all_goals exact picture_of_loads x0 x1 x2 x3 _ _ _ _ _ y x (by omega) (by omega) (by omega) (by omega)

end Cert.Ramp
-- ==== Proof.Ramp.Array.lean ====
module

public import proofs.«01_k».proof.Proof.Ramp.Block

@[expose] public section

/-!
# The kernel's whole array, and its result

The four grid points write blocks of 16 spectrograms that tile the array; the program then moves the channel axis last.
-/

noncomputable section

namespace Cert.Ramp

open Idealize.ShloMosaic Idealize.ShloMosaic.TcCoe Idealize.SL.Sem Cert.KernelIdeal Cert.KernelIdeal.Gen

variable (m : (ℓ : Loc nD τ sig) → Buf (Elt Ideal) ℓ)

/-- The spectrograms and the palette, as the program was launched with them. -/
abbrev specs (c : Dev nD) : Vec Ideal S64x384x384 .f32 := m ((c.tc : Thread nD τ).loc main_arg0)
abbrev palette (c : Dev nD) : Vec Ideal S16x3 .f32 := m ((c.tc : Thread nD τ).loc main_arg1)

/-- The kernel's weight tables. -/
abbrev weightsH : Vec Ideal S224x384 .f32 := fun i => FloatOps.ofBits (F := Ideal) .f32 (lit0 (S224x384.rowMajor i))
abbrev weightsW : Vec Ideal S384x224 .f32 := fun i => FloatOps.ofBits (F := Ideal) .f32 (lit1 (S384x224.rowMajor i))

/-- The picture of spectrogram `s` in channel `k`. -/
def kernelShade (X : Vec Ideal S64x384x384 .f32) (P : Vec Ideal S16x3 .f32) (s : Fin 64) (k : Fin 3) (a b : Fin 224) : EReal :=
  shade (fun i => X (ix3 s i.1 i.2)) (fun a h => weightsH (ix2 a h)) (fun w b => weightsW (ix2 w b)) (P (ix2 0 k)) (P (ix2 15 k)) a b

/-- The array after the launch. -/
theorem array_eq (c : Dev nD) :
    (dats m 0 c).arrAt 4 (cfgs 0).N = fun y : S64x3x224x224.Idx => kernelShade (specs m c) (palette m c) (y 0) (y 1) (y 2) (y 3) := by
  refine (dats m 0 c).arrAt_eq_of_covers 4 _ (by decide +kernel) fun t hf y => ?_
  blk_simp
  rw [after0_4]
  refine (out_apply _ _ _ _ y).trans ?_
  unfold blockShade kernelShade
  have idx : ∀ t, win0_0.index t = ![t.val, 0, 0] ∧ win0_1.index t = ![0, 0] ∧ win0_2.index t = ![0, 0]
      ∧ win0_3.index t = ![0, 0] ∧ win0_4.index t = ![t.val, 0, 0, 0] := by decide +kernel
  have e0 : ∀ i : Fin 384 × Fin 384, iblk m c 0 t (ix3 (y 0) i.1 i.2) = specs m c (ix3 ((win0_4.blk t).view.emb y 0) i.1 i.2) := by
    intro i; blk_ext [iblk, V, idx t]
  have e1 : ∀ k, iblk m c 1 t (ix2 k (y 1)) = palette m c (ix2 k ((win0_4.blk t).view.emb y 1)) := by
    intro i; blk_ext [iblk, V, idx t]
  have e2 : ∀ a h, iblk m c 2 t (ix2 a h) = weightsH (ix2 a h) := by
    intro a h; blk_ext [iblk, V, idx t]
  have e3 : ∀ a h, iblk m c 3 t (ix2 a h) = weightsW (ix2 a h) := by
    intro a h; blk_ext [iblk, V, idx t]
  have e4 : (win0_4.blk t).view.emb y 2 = y 2 := by
    apply Fin.ext; blk_simp [idx t]
  have e5 : (win0_4.blk t).view.emb y 3 = y 3 := by
    apply Fin.ext; blk_simp [idx t]
  rw [e4, e5]
  simp only [e0, e1, e2, e3]

/-- The kernel's result: the array with the channel axis moved last. -/
def kernelResult (c : Dev nD) : Vec Ideal S64x224x224x3 .f32 := fun y =>
  kernelShade (specs m c) (palette m c) (y 0) (y 3) (y 1) (y 2)

/-- Every run of the kernel ends with `kernelResult` in its result and with its arguments as they were. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v1) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_main m ρ)
  · refine ((h c).2 main_v1 (Pipeline.mem_restRefs_of _ (by decide) (by decide))).trans ?_
    unfold Pipeline.afterTail₀
    simp only [hostOps1, List.flatten_cons, List.flatten_nil, List.append_nil]
    after_results_simp
    have key := Pipeline.withArrays_arr (cfgs 0).spec (by decide) c (V0 m c) (fun w => (dats m 0 c).arrAt w (cfgs 0).N) 4
    refine (congrArg (fun A => transpose S64x224x224x3 [0, 2, 3, 1] A transposes_S64x3x224x224_S64x224x224x3_0_2_3_1)
      (key.trans (array_eq m c))).trans ?_
    funext y
    idx_vars y
    pointwise [kernelResult]
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.Ramp
-- ==== Proof.Ramp.Weights.lean ====
module

public import Idealize.ShloMosaic.PureOps.Ideal

@[expose] public section

/-!
# The resize weights in closed form

The triangle filter that resizes 384 entries to 224 repeats: seven output pixels span twelve input pixels. `weight o h`
is the word of the float weight of input `h` in output `o`; it is nonzero only in a window of fourteen inputs around the
output, and depends only on the output's place in its group of seven, except that the first and the last output have
rows of their own (the filter is cut at the border and renormalised).
-/

namespace Cert.Ramp

/-- The nine different rows of the filter: the seven places of a group, then the first and the last output. -/
def filterRows : List (List ℕ) :=
  [[0x3E000000, 0x3EF33333, 0x3EC00000, 0x3CCCCCCD, 0, 0, 0, 0, 0, 0, 0, 0, 0, 0],
   [0, 0, 0x3E565359, 0x3F08EE24, 0x3E82FA0C, 0, 0, 0, 0, 0, 0, 0, 0, 0],
   [0, 0, 0, 0, 0x3EA2576A, 0x3F031F38, 0x3E2ED44B, 0, 0, 0, 0, 0, 0, 0],
   [0, 0, 0, 0, 0, 0x3D99999A, 0x3ED9999A, 0x3ED9999A, 0x3D99999A, 0, 0, 0, 0, 0],
   [0, 0, 0, 0, 0, 0, 0, 0x3E2ED44B, 0x3F031F38, 0x3EA2576A, 0, 0, 0, 0],
   [0, 0, 0, 0, 0, 0, 0, 0, 0, 0x3E82FA0C, 0x3F08EE24, 0x3E565359, 0, 0],
   [0, 0, 0, 0, 0, 0, 0, 0, 0, 0, 0x3CCCCCCD, 0x3EC00000, 0x3EF33333, 0x3E000000],
   [0, 0x3F0AF8B0, 0x3EDB6DB7, 0x3CEA0EA1, 0, 0, 0, 0, 0, 0, 0, 0, 0, 0],
   [0, 0, 0, 0, 0, 0, 0, 0, 0, 0, 0x3CEA0EA1, 0x3EDB6DB7, 0x3F0AF8B0, 0]]

/-- Which of the nine rows output `o` has. -/
def filterRow (o : ℕ) : ℕ := bif Nat.beq o 0 then 7 else bif Nat.beq o 223 then 8 else o % 7

/-- The word of the weight of input `h` in output `o`. -/
def weight (o h : ℕ) : ℕ :=
  bif Nat.ble (12 * (o / 7)) (h + 1) && Nat.ble (h + 1 - 12 * (o / 7)) 13 then
    (filterRows.getD (filterRow o) []).getD (h + 1 - 12 * (o / 7)) 0
  else 0

/-! ## Tables as the programs print them: by base-128 digits of the index -/

/-- A choice among 6. -/
def pick6 (f : ℕ → BitVec 32) (n : ℕ) : BitVec 32 := match n with
  | 0 => f 0 | 1 => f 1 | 2 => f 2 | 3 => f 3 | 4 => f 4 | 5 => f 5 | _ => 0#32

/-- A choice among 32. -/
def pick32 (f : ℕ → BitVec 32) (n : ℕ) : BitVec 32 := match n with
  | 0 => f 0 | 1 => f 1 | 2 => f 2 | 3 => f 3 | 4 => f 4 | 5 => f 5 | 6 => f 6 | 7 => f 7 | 8 => f 8 | 9 => f 9
  | 10 => f 10 | 11 => f 11 | 12 => f 12 | 13 => f 13 | 14 => f 14 | 15 => f 15 | 16 => f 16 | 17 => f 17 | 18 => f 18
  | 19 => f 19 | 20 => f 20 | 21 => f 21 | 22 => f 22 | 23 => f 23 | 24 => f 24 | 25 => f 25 | 26 => f 26 | 27 => f 27
  | 28 => f 28 | 29 => f 29 | 30 => f 30 | 31 => f 31 | _ => 0#32

/-- A choice among 128. -/
def pick128 (f : ℕ → BitVec 32) (n : ℕ) : BitVec 32 := match n with
  | 0 => f 0 | 1 => f 1 | 2 => f 2 | 3 => f 3 | 4 => f 4 | 5 => f 5 | 6 => f 6 | 7 => f 7 | 8 => f 8 | 9 => f 9
  | 10 => f 10 | 11 => f 11 | 12 => f 12 | 13 => f 13 | 14 => f 14 | 15 => f 15 | 16 => f 16 | 17 => f 17 | 18 => f 18
  | 19 => f 19 | 20 => f 20 | 21 => f 21 | 22 => f 22 | 23 => f 23 | 24 => f 24 | 25 => f 25 | 26 => f 26 | 27 => f 27
  | 28 => f 28 | 29 => f 29 | 30 => f 30 | 31 => f 31 | 32 => f 32 | 33 => f 33 | 34 => f 34 | 35 => f 35 | 36 => f 36
  | 37 => f 37 | 38 => f 38 | 39 => f 39 | 40 => f 40 | 41 => f 41 | 42 => f 42 | 43 => f 43 | 44 => f 44 | 45 => f 45
  | 46 => f 46 | 47 => f 47 | 48 => f 48 | 49 => f 49 | 50 => f 50 | 51 => f 51 | 52 => f 52 | 53 => f 53 | 54 => f 54
  | 55 => f 55 | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71 | 72 => f 72
  | 73 => f 73 | 74 => f 74 | 75 => f 75 | 76 => f 76 | 77 => f 77 | 78 => f 78 | 79 => f 79 | 80 => f 80 | 81 => f 81
  | 82 => f 82 | 83 => f 83 | 84 => f 84 | 85 => f 85 | 86 => f 86 | 87 => f 87 | 88 => f 88 | 89 => f 89 | 90 => f 90
  | 91 => f 91 | 92 => f 92 | 93 => f 93 | 94 => f 94 | 95 => f 95 | 96 => f 96 | 97 => f 97 | 98 => f 98 | 99 => f 99
  | 100 => f 100 | 101 => f 101 | 102 => f 102 | 103 => f 103 | 104 => f 104 | 105 => f 105 | 106 => f 106
  | 107 => f 107 | 108 => f 108 | 109 => f 109 | 110 => f 110 | 111 => f 111 | 112 => f 112 | 113 => f 113
  | 114 => f 114 | 115 => f 115 | 116 => f 116 | 117 => f 117 | 118 => f 118 | 119 => f 119 | 120 => f 120
  | 121 => f 121 | 122 => f 122 | 123 => f 123 | 124 => f 124 | 125 => f 125 | 126 => f 126 | 127 => f 127 | _ => 0#32

/-- 128 entries of a table `g`, chosen by the index's last digit. -/
def digit0 (g : ℕ → BitVec 32) (j i : ℕ) : BitVec 32 := pick128 (fun k => g (128 * j + k)) (i % 128)

/-- A whole table of 86016 entries, chosen digit by digit. -/
def digits (g : ℕ → BitVec 32) (i : ℕ) : BitVec 32 :=
  pick6 (fun d => bif Nat.ble d 4 then pick128 (fun k => digit0 g (128 * d + k) i) (i / 128 % 128)
    else pick32 (fun k => digit0 g (128 * d + k) i) (i / 128 % 128)) (i / 16384)

theorem pick6_eq (f : ℕ → BitVec 32) {n : ℕ} (h : n < 6) : pick6 f n = f n := by interval_cases n <;> rfl
theorem pick32_eq (f : ℕ → BitVec 32) {n : ℕ} (h : n < 32) : pick32 f n = f n := by interval_cases n <;> rfl
theorem pick128_eq (f : ℕ → BitVec 32) {n : ℕ} (h : n < 128) : pick128 f n = f n := by interval_cases n <;> rfl

/-- Choosing by digits reads the table. -/
theorem digits_eq (g : ℕ → BitVec 32) {i : ℕ} (h : i < 86016) : digits g i = g i := by
  unfold digits
  rw [pick6_eq _ (by omega)]
  have hk : digit0 g (128 * (i / 16384) + i / 128 % 128) i = g i := by
    unfold digit0
    rw [pick128_eq _ (by omega)]
    congr 1; omega
  cases hd : Nat.ble (i / 16384) 4 with
  | true => rw [cond_true, pick128_eq _ (by omega), hk]
  | false =>
    have : ¬ i / 16384 ≤ 4 := fun h => by rw [Nat.ble_eq.mpr h] at hd; cases hd
    rw [cond_false, pick32_eq _ (by omega), hk]

/-- The 224 by 384 table, row-major. -/
def tableOH (i : ℕ) : BitVec 32 := BitVec.ofNat 32 (weight (i / 384) (i % 384))

/-- The 384 by 224 table, row-major: the same weights, transposed. -/
def tableHO (i : ℕ) : BitVec 32 := BitVec.ofNat 32 (weight (i % 224) (i / 224))

end Cert.Ramp
-- ==== Proof.Ramp.TableOH.lean ====
module

public import proofs.«01_k».proof.KernelIdeal
public import proofs.«01_k».proof.Proof.Ramp.Weights

@[expose] public section

namespace Cert.Ramp

set_option maxRecDepth 100000 in
set_option maxHeartbeats 0 in
/-- The kernel's first printed table is the table of the filter's weights, row by output. -/
theorem kernel_tableOH (i : ℕ) : Cert.KernelIdeal.lit0t i = digits tableOH i := rfl

end Cert.Ramp
-- ==== Proof.Ramp.TableHO.lean ====
module

public import proofs.«01_k».proof.KernelIdeal
public import proofs.«01_k».proof.Proof.Ramp.Weights

@[expose] public section

namespace Cert.Ramp

set_option maxRecDepth 100000 in
set_option maxHeartbeats 0 in
/-- The kernel's second printed table is the table of the filter's weights, row by input. -/
theorem kernel_tableHO (i : ℕ) : Cert.KernelIdeal.lit1t i = digits tableHO i := rfl

end Cert.Ramp
-- ==== Proof.Ramp.Tables.lean ====
module

public import proofs.«01_k».proof.Proof.Ramp.Reference
public import proofs.«01_k».proof.Proof.Ramp.Array
public import proofs.«01_k».proof.Proof.Ramp.TableOH
public import proofs.«01_k».proof.Proof.Ramp.TableHO

@[expose] public section

/-!
# The printed tables, entry by entry

The kernel's two weight tables and the reference's one hold the same filter: entry for output `o` and input `h` is
`factor o h`, which is not negative.
-/

noncomputable section

namespace Cert.Ramp

open Idealize.ShloMosaic

/-- The float weight of input `h` in output `o`. -/
def factor (o : Fin 224) (h : Fin 384) : EReal := Ideal.ofBits .f32 (BitVec.ofNat 32 (weight o h))

/-- The words in the rows of the filter are those of nonnegative floats. -/
theorem filterRows_le : ∀ r ∈ filterRows, ∀ n ∈ r, n ≤ 0x7F800000 := by decide +kernel

/-- So is every weight's word. -/
theorem weight_le (o h : ℕ) : weight o h ≤ 0x7F800000 := by
  unfold weight
  cases Nat.ble (12 * (o / 7)) (h + 1) && Nat.ble (h + 1 - 12 * (o / 7)) 13 with
  | false => exact Nat.zero_le _
  | true =>
    rw [cond_true, List.getD_eq_getElem?_getD, List.getD_eq_getElem?_getD]
    cases hr : filterRows[filterRow o]? with
    | none => simp
    | some r =>
      cases hn : r[h + 1 - 12 * (o / 7)]? with
      | none => simp [hn]
      | some n => simpa [hn] using filterRows_le r (List.mem_of_getElem? hr) n (List.mem_of_getElem? hn)

/-- No weight is negative. -/
theorem factor_nonneg (o : Fin 224) (h : Fin 384) : 0 ≤ factor o h := by
  refine ofBits_nonneg ?_
  rw [BitVec.toNat_ofNat, Nat.mod_eq_of_lt (by have := weight_le o h; omega)]
  exact weight_le o h

/-- The word at the row-major place of an entry of the kernel's first table. -/
theorem word_OH (o : Fin 224) (h : Fin 384) (n : ℕ) (hn : n = o.val * 384 + h.val) :
    Ideal.ofBits .f32 (Cert.KernelIdeal.lit0t n) = factor o h := by
  rw [kernel_tableOH, digits_eq _ (by omega)]
  unfold tableOH factor
  rw [show n / 384 = o by omega, show n % 384 = h by omega]

/-- The word at the row-major place of an entry of the kernel's second table. -/
theorem word_HO (h : Fin 384) (o : Fin 224) (n : ℕ) (hn : n = h.val * 224 + o.val) :
    Ideal.ofBits .f32 (Cert.KernelIdeal.lit1t n) = factor o h := by
  rw [kernel_tableHO, digits_eq _ (by omega)]
  unfold tableHO factor
  rw [show n / 224 = h by omega, show n % 224 = o by omega]

/-- An entry of the kernel's first table. -/
theorem weightsH_apply (o : Fin 224) (h : Fin 384) : weightsH (ix2 o h) = factor o h :=
  word_OH o h _ (Shape.rowMajor_val_two (d := ![224, 384]) (ix2 o h))

/-- An entry of the kernel's second table. -/
theorem weightsW_apply (h : Fin 384) (o : Fin 224) : weightsW (ix2 h o) = factor o h :=
  word_HO h o _ (Shape.rowMajor_val_two (d := ![384, 224]) (ix2 h o))

set_option maxRecDepth 100000 in
set_option maxHeartbeats 0 in
/-- The reference's table is the kernel's first one. -/
theorem reference_table (i : ℕ) : Cert.ReferenceIdeal.lit0t i = Cert.KernelIdeal.lit0t i := rfl

/-- An entry of the reference's table. -/
theorem weightsR_apply (o : Fin 224) (h : Fin 384) : weightsR (ix2 o h) = factor o h :=
  (congrArg (Ideal.ofBits .f32) (reference_table _)).trans
    (word_OH o h _ (Shape.rowMajor_val_two (d := ![224, 384]) (ix2 o h)))

end Cert.Ramp
-- ==== Proof.Ramp.Precondition.lean ====
module

public import proofs.«01_k».proof.Proof.Gen.Pre_contrast_and_ramp
public import proofs.«01_k».proof.Proof.Ramp.Formula
public import Idealize.ShloMosaic.Lib.Pointwise
public import Idealize.ShloMosaic.Lib.ReduceAll
public import Idealize.ShloMosaic.Lib.Affine
public import Idealize.ShloMosaic.Lib.WordCmp

@[expose] public section

/-!
# What the precondition says

Every spectrogram has contrast, and entry `k` of every colour channel is `k` times a fifteenth of the channel's last entry.
-/

noncomputable section

namespace Cert.Ramp

open Idealize.ShloMosaic Cert.Pre_contrast_and_ramp

/-- The palette is a ramp from black: entry `k` is `k` fifteenths of the last one. -/
def IsRamp (P : Vec Ideal S16x3 .f32) : Prop :=
  ∀ (k : Fin 16) (c : Fin 3), P (ix2 k c) = ((k.val : ℝ) : EReal) * Ideal.div (P (ix2 15 c)) 15

/-- A spectrogram's greatest entry, as the formula has it. -/
theorem greatest_entry (X : FVec Ideal S64x384x384 .f32) (s : Fin 64) :
    Host.reduce FloatOps.maximumf X (constant S_ .f32 0xFF800000#32) Facts.reducesTo_S64x384x384_S64_d1_2 Facts.h_S_ (ix1 s)
      = top fun i => X (ix3 s i.1 i.2) := by
  unfold top
  rw [← ofBits_neg_inf]
  pointwise

/-- A spectrogram's least entry, as the formula has it. -/
theorem least_entry (X : FVec Ideal S64x384x384 .f32) (s : Fin 64) :
    Host.reduce FloatOps.minimumf X (constant S_ .f32 0x7F800000#32) Facts.reducesTo_S64x384x384_S64_d1_2 Facts.h_S_ (ix1 s)
      = lo fun i => X (ix3 s i.1 i.2) := by
  unfold lo
  rw [← ofBits_inf]
  pointwise

/-- The word of "greater" is 1 exactly when the order says so. -/
theorem greater_iff (A B : FVec Ideal S64 .f32) (i : S64.Idx) : cmpf .ogt A B i = 1#1 ↔ B i < A i :=
  WordCmp.ofBool_decide_eq_one_iff _

/-- The word of a palette number. -/
theorem palette_word (k : Fin 16) : (BitVec.ofNat 32 k.val).toInt = (k.val : ℤ) := by
  revert k; decide

/-- The precondition gives contrast and the ramp. -/
theorem precondition (X : FVec Ideal S64x384x384 .f32) (P : FVec Ideal S16x3 .f32) (h : fn (F := Ideal) X P = fun _ => 1#1) :
    (∀ s : Fin 64, Contrast fun i => X (ix3 s i.1 i.2)) ∧ IsRamp P := by
  have h0 := congrFun h (Shape.Idx.first Facts.h_S_)
  dsimp only [fn] at h0
  obtain ⟨h1, h2⟩ := IntOp.andi_eq_one.mp h0
  refine ⟨fun s => ?_, fun k c => ?_⟩
  · have h3 := (greater_iff _ _ _).mp (Host.reduce_andi_all _ _ _ _ _ h1 (ix1 s))
    rw [greatest_entry, least_entry] at h3
    exact h3
  · have h3 := Host.reduce_andi_all _ _ _ _ _ h2 (ix2 k c)
    pointwise at h3
    rw [ofBits_fifteen, WordCmp.ofBool_decide_eq_one_iff] at h3
    rw [h3]
    congr 1
    show (((BitVec.ofNat 32 k.val).toInt : ℝ) : EReal) = _
    rw [palette_word]
    norm_num

end Cert.Ramp
-- ==== Proof.Ramp.Equation.lean ====
module

public import proofs.«01_k».proof.Proof.Ramp.Tables
public import proofs.«01_k».proof.Proof.Ramp.Precondition

@[expose] public section

/-!
# The kernel's pixel is the reference's pixel

With a ramp from black, looking a palette index up is multiplying it by one step of the ramp; the step leaves the two
resizing sums, because no weight and no index is negative.
-/

noncomputable section

namespace Cert.Ramp

open Idealize.ShloMosaic

/-- A fifteenth, as a product and as a quotient. -/
theorem fifteenth (x : EReal) : (x - 0) * ((1 / 15 : ℝ) : EReal) = Ideal.div x 15 := by
  have h : ((15 : ℝ) : EReal) ≠ 0 := by norm_num
  rw [sub_zero, fifteen, div_of_ne_zero x h, ← EReal.coe_inv, one_div]

/-- A ramp's first entry is black. -/
theorem IsRamp.first {P : FVec Ideal Cert.ReferenceIdeal.S16x3 .f32} (hP : IsRamp P) (c : Fin 3) : P (ix2 0 c) = 0 := by
  rw [hP 0 c]; simp

/-- The colour that the reference looks up for an entry: its palette index times one step of the ramp. -/
theorem colour_eq (X : FVec Ideal Cert.ReferenceIdeal.S64x384x384 .f32) (P : FVec Ideal Cert.ReferenceIdeal.S16x3 .f32) (s : Fin 64)
    (hX : Contrast fun i => X (ix3 s i.1 i.2)) (hP : IsRamp P) (h w : Fin 384) (c : Fin 3) :
    colours P (wrapped (indices X)) (ix4 s h w c)
      = level (fun i => X (ix3 s i.1 i.2)) (h, w) * Ideal.div (P (ix2 15 c)) 15 := by
  obtain ⟨n, hn, e⟩ := hX.level_mem (h, w)
  have hi : indices X (ix3 s h w) = BitVec.ofNat 32 n := by
    rw [indices_apply X s hX h w, e, fptosi_natCast hn]
  rw [colours_apply P _ s h w c ⟨n, by omega⟩ (wrapped_apply _ s h w n hn hi), hP, e]

/-- The kernel's pixel is the reference's. -/
theorem pixel_eq (X : FVec Ideal Cert.ReferenceIdeal.S64x384x384 .f32) (P : FVec Ideal Cert.ReferenceIdeal.S16x3 .f32)
    (hX : ∀ s : Fin 64, Contrast fun i => X (ix3 s i.1 i.2)) (hP : IsRamp P) (s : Fin 64) (c : Fin 3) (a b : Fin 224) :
    kernelShade X P s c a b
      = ∑ w : Fin 384, (∑ h : Fin 384, colours P (wrapped (indices X)) (ix4 s h w c) * weightsR (ix2 a h)) * weightsR (ix2 b w) := by
  unfold kernelShade shade
  simp only [colour_eq X P s (hX s) hP]
  rw [hP.first c, fifteenth, zero_add]
  have hq : ∀ h w, 0 ≤ level (fun i => X (ix3 s i.1 i.2)) (h, w) := fun h w => by
    obtain ⟨n, _, e⟩ := (hX s).level_mem (h, w)
    rw [e]
    exact EReal.coe_nonneg.mpr n.cast_nonneg
  generalize level (fun i => X (ix3 s i.1 i.2)) = q at hq ⊢
  generalize Ideal.div (P (ix2 15 c)) 15 = step
  have e1 := weightsH_apply
  have e2 := weightsW_apply
  have e3 := weightsR_apply
  generalize weightsH = A at e1 ⊢
  generalize weightsW = B at e2 ⊢
  generalize weightsR = C at e3 ⊢
  simp only [e1, e2, e3]
  exact (resize_scale (factor a) (factor b) (fun h w => q (h, w)) step (factor_nonneg a) (factor_nonneg b) hq).symm

/-- The reference's result is the kernel's, as functions of the two arguments. -/
theorem result_eq (X : FVec Ideal Cert.ReferenceIdeal.S64x384x384 .f32) (P : FVec Ideal Cert.ReferenceIdeal.S16x3 .f32)
    (h : Cert.Pre_contrast_and_ramp.fn (F := Ideal) X P = fun _ => 1#1) :
    resized weightsR (colours P (wrapped (indices X))) = fun y => kernelShade X P (y 0) (y 3) (y 1) (y 2) := by
  obtain ⟨hX, hP⟩ := precondition X P h
  funext y
  exact (resized_apply _ _ y).trans (pixel_eq X P hX hP (y 0) (y 3) (y 1) (y 2)).symm

end Cert.Ramp
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_contrast_and_ramp
public import proofs.«01_k».proof.Proof.Ramp.Equation
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The named constant is a fifteenth. -/
theorem preserves : Cert.preserves_Kernel_KernelIdeal :=
  IdealRules.named_const.statement Cert.KernelIdeal.κ "inv_n" .f32 0x3D888889#32 _ rfl

/-- The reference keeps its arguments, and leaves every semaphore counter at zero: it declares none. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r =>
      (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
      ∧ r.2.sem = fun _ => 0 :=
  (θ_run Cert.ReferenceIdeal.defs _ _).mono (fun r h => ⟨fun c => (h c).2, sem_eq_zero_of_no_sems (by decide) r.2⟩)
    (Cert.ReferenceIdeal.Value.run m g)

/-- Kernel and reference end with equal results. -/
theorem algebraic : Cert.algebraic_KernelIdeal_ReferenceIdeal_pre_contrast_and_ramp := by
  intro m g m' g' hpre hagree
  refine ⟨fun c => Cert.Ramp.kernelResult m c, Cert.Ramp.kernel_run m g, ?_⟩
  refine (θ_run Cert.ReferenceIdeal.defs _ _).mono (fun r h c => ⟨(h c).1.trans ?_, (h c).2⟩) (Cert.ReferenceIdeal.Value.run m' g')
  rw [Cert.Ramp.reference_eq, (hagree c).1, (hagree c).2]
  exact Cert.Ramp.result_eq _ _ (hpre c)

theorem claim : Cert.Claim :=
  ⟨Cert.Kernel.Gen.facts, Cert.KernelIdeal.Gen.facts, Cert.ReferenceIdeal.Gen.facts, Cert.Pre_contrast_and_ramp.Gen.facts,
    fun m g _ => Cert.Kernel.Gen.frame m g, fun m g _ => Cert.KernelIdeal.Gen.frame m g, fun m g _ => Cert.KernelIdeal.Gen.frame m g,
    fun m g _ => reference_frame m g, fun m g _ => reference_frame m g, preserves, algebraic⟩

end Cert.Proof

end
